-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_stays_Kernel : Cert.Pre_stays_Kernel.Facts) (hPre_swaps_ReferenceIdeal : Cert.Pre_swaps_ReferenceIdeal.Facts) (hPre_stays_ReferenceIdeal : Cert.Pre_stays_ReferenceIdeal.Facts),
    quiescent_Kernel (hKernel := hKernel) (hPre_swaps_Kernel := hPre_swaps_Kernel)
    ∧ quiescent_Kernel_pre_stays_Kernel (hKernel := hKernel) (hPre_stays_Kernel := hPre_stays_Kernel)
    ∧ quiescent_KernelIdeal (hKernelIdeal := hKernelIdeal) (hPre_swaps_Kernel := hPre_swaps_Kernel)
    ∧ quiescent_KernelIdeal_pre_stays_Kernel (hKernelIdeal := hKernelIdeal) (hPre_stays_Kernel := hPre_stays_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_stays_ReferenceIdeal (hReferenceIdeal := hReferenceIdeal) (hPre_stays_ReferenceIdeal := hPre_stays_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_stays_Kernel (hKernelIdeal := hKernelIdeal) (hReferenceIdeal := hReferenceIdeal) (hPre_stays_Kernel := hPre_stays_Kernel)
-- ==== Pre_stays_Kernel.lean ====
abbrev S1x256x256 : Shape := ⟨3, ![1, 256, 256]⟩
abbrev S2 : Shape := ⟨1, ![2]⟩

class Facts : Prop where

variable [Facts]

def fn {F : FTy → Type} [FloatOps F] (main_arg0 : FVec F S1x256x256 .f32) (main_arg1 : IVec S2 32) : IVec S2 1 :=
  let main_v0 : IVec S2 32 := iotaInDim S2 32 0
  let main_v1 : IVec S2 1 := cmpi .eq main_arg1 main_v0
  main_v1
-- ==== Pre_stays_ReferenceIdeal.lean ====
abbrev S2x256x256 : Shape := ⟨3, ![2, 256, 256]⟩
abbrev S2 : Shape := ⟨1, ![2]⟩

class Facts : Prop where

variable [Facts]

def fn {F : FTy → Type} [FloatOps F] (main_arg0 : FVec F S2x256x256 .f32) (main_arg1 : IVec S2 32) : IVec S2 1 :=
  let main_v0 : IVec S2 32 := iotaInDim S2 32 0
  let main_v1 : IVec S2 1 := cmpi .eq main_arg1 main_v0
  main_v1
-- ==== Pre_swaps_Kernel.lean ====
abbrev S1x256x256 : Shape := ⟨3, ![1, 256, 256]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S1x256x256 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_swaps_ReferenceIdeal.lean ====
abbrev S2x256x256 : Shape := ⟨3, ![2, 256, 256]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x256x256 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Kernel.lean ====
abbrev S1x256x256 : Shape := ⟨3, ![1, 256, 256]⟩
abbrev S2 : Shape := ⟨1, ![2]⟩
abbrev S_ : Shape := ⟨0, ![]⟩
abbrev S1 : Shape := ⟨1, ![1]⟩

abbrev nBuf : Space → Nat
  | .hbm => 3
  | .vmem => 1
  | .smem => 1
  | _ => 0

abbrev bufTy : (tb : Table) → Fin (tcTables nBuf tb) → BufTy
  | .hbm, ⟨0, _⟩ => ⟨S1x256x256, .f32⟩
  | .hbm, ⟨1, _⟩ => ⟨S2, .i32⟩
  | .hbm, ⟨2, _⟩ => ⟨S1x256x256, .f32⟩
  | .local _ .vmem, ⟨0, _⟩ => ⟨S1x256x256, .f32⟩
  | .local _ .smem, ⟨0, _⟩ => ⟨S2, .i32⟩
  | _, _ => ⟨S1x256x256, .f32⟩

abbrev bufScoped : (cs : CoreSpace) → Fin (nBuf (.core cs)) → Bool
  | .vmem, ⟨0, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.smem, 0, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : Index := Scalar.indexCast v8
  ![v9.toNat]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v13 : BitVec 32 := Scalar.muli v2 c4_i32_5
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v15 : BitVec 32 := Scalar.muli v5 c2_i32_6
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_3 v8
  let c1_i32_7 : BitVec 32 := 1#32
  let v17 : BitVec 32 := Scalar.muli v12 c1_i32_7
  let v18 : BitVec 32 := Scalar.addi v16 v17
  v18.toNat
def k0_dev2 (d0 : Dev nD) (v10 : BitVec 32) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v25 : BitVec 32 := Scalar.muli v2 c4_i32_11
  let v26 : BitVec 32 := Scalar.addi c0_i32_12 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v27 : BitVec 32 := Scalar.muli v5 c2_i32_13
  let v28 : BitVec 32 := Scalar.addi v26 v27
  let c1_i32_14 : BitVec 32 := 1#32
  let v29 : BitVec 32 := Scalar.muli v10 c1_i32_14
  let v30 : BitVec 32 := Scalar.addi v28 v29
  v30.toNat
def k0_cond2 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 1 := Scalar.cmpi .ne v10 v8
  let v23 : BitVec 32 := Scalar.extui v22
  let c0_i32_10 : BitVec 32 := 0#32
  let v24 : BitVec 1 := Scalar.cmpi .ne v23 c0_i32_10
  v24

def k0_chk1 (d0 : Dev nD) (v10 : BitVec 32) : Prop :=
  (∀ (k0_h2 : k0_cond2 d0 v10 = 1#1), (k0_dev2 d0 v10) < nD)
theorem k0_dev2_lt : ∀ (d0 : Dev nD) (v10 : BitVec 32) (k0_hw1 : k0_chk1 d0 v10), ∀ (k0_h2 : k0_cond2 d0 v10 = 1#1), (k0_dev2 d0 v10) < nD := fun d0 v10 k0_hw1 k0_h2 => k0_hw1 k0_h2

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x256x256 : Shape := ⟨3, ![2, 256, 256]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.IdealProtocol.lean ====
/-
  The protocol of the kernel between the two devices of a pair.

  The devices form four pairs along the mesh axis `z`; a device's MATE is the other device of its pair. Every device
  signals its mate's barrier semaphore once, waits for one unit on its own, and then either sends its block of `x` into
  the mate's result array (`pi` exchanges the two rows) or copies its block into its own result array (`pi` leaves the
  two rows in place). The flag `sw` says which of the two: it is `true` when the rows are exchanged. One schedule of the
  rounds library, over `sw`, covers both.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one copy of the rounds library for the staging pipeline, one for the devices' protocol. -/
abbrev UU : Type := UR sig nD τ × UR sig nD τ

local notation "𝕄" => MT nD τ sig Unit (Elt F) ℕ UU ℕ

/-- Where the pipeline's copy sits in the ghost state. -/
abbrev EP : Emb (UR sig nD τ) (MT nD τ sig Unit (Elt F) ℕ UU ℕ) := embL
/-- Where the protocol's copy sits in the ghost state. -/
abbrev ER : Emb (UR sig nD τ) (MT nD τ sig Unit (Elt F) ℕ UU ℕ) := embR

/-! ## The pairs -/

set_option backward.proofsInPublic true in
/-- The mate of device `c`: the device at the other place of the axis `z`, the same place of `x` and `y`. -/
def mate (c : Dev nD) : Dev nD := ⟨4 * (c.val / 4) + 2 * (c.val / 2 % 2) + 1 - c.val % 2, by have : c.val < 8 := c.isLt; show _ < 8; omega⟩

/-- A device is its mate's mate. -/
theorem mate_mate (c : Dev nD) : mate (mate c) = c := by revert c; decide

/-- The device the kernel signals is the mate. -/
theorem signal_dev (c : Dev nD) : (⟨k0_dev1 c, k0_dev1_lt c⟩ : Dev nD) = mate c := Fin.ext (k0_dev1_eq c)

/-! ## The buffers and the semaphores -/

/-- The staged block of `x`. -/
abbrev xM : Memref sig .tc .vmem S1x256x256 .f32 := Memref.whole cc0_stg0_0
/-- The staged `pi`. -/
abbrev piM : Memref sig .tc .smem S2 .i32 := Memref.whole cc0_stg1_0
/-- The result array. -/
abbrev oM : Memref sig .tc .hbm S1x256x256 .f32 := Memref.whole main_v1

/-- The barrier semaphore. -/
abbrev barS : Sem sig := (SemArray.scalar (sig.barrier 0 rfl) : Sems sig S_).sem
/-- The semaphore of a sender, of a receiver, and of a copy on one device. -/
abbrev sendS : DmaSem sig := (cc0_scratch0 : DmaSems sig S_).sem
abbrev recvS : DmaSem sig := (cc0_scratch1 : DmaSems sig S_).sem
abbrev copyS : DmaSem sig := (cc0_scratch2 : DmaSems sig S_).sem

/-- The protocol's four semaphores: barrier, send, receive, copy. -/
abbrev psem : Fin 4 → SemLoc sig := fun | 0 => .reg barS | 1 => .dma sendS | 2 => .dma recvS | 3 => .dma copyS
/-- Semaphore `ck.2` of the four, on device `ck.1`. -/
abbrev pcell (ck : Dev nD × Fin 4) : GSem nD τ sig := ((ck.1 : Thread nD τ), psem ck.2)

/-- The kernel's own three semaphores, those that live only while it runs. -/
abbrev osem : Fin 3 → SemLoc sig := fun | 0 => .dma sendS | 1 => .dma recvS | 2 => .dma copyS

/-- No two of the four semaphores are the same. -/
theorem psem_injective : Function.Injective psem := by
  intro i j h
  fin_cases i <;> fin_cases j <;> first | rfl | exact absurd h (by decide)

/-- No two cells are the same. -/
theorem pcell_injective : Function.Injective (pcell : Dev nD × Fin 4 → GSem nD τ sig) := by
  rintro ⟨c, i⟩ ⟨d, j⟩ h
  have h1 : c = d := congrArg (fun g : GSem nD τ sig => g.1.1) h
  have h2 : i = j := psem_injective (congrArg Prod.snd h)
  rw [h1, h2]

/-- The credit a transfer of one block gives its semaphore. -/
abbrev blockCredit : ℕ := (oM : Memref sig .tc .hbm S1x256x256 .f32).view.dmaCredit
/-- It is positive. -/
theorem blockCredit_pos : 0 < blockCredit := View.dmaCredit_pos _ (by decide)

/-! ## What the buffers hold -/

variable (m : (ℓ : Loc nD τ sig) → Buf (Elt F) ℓ)

/-- Device `c`'s staged block of `x`, as the pipeline fetches it. -/
def xStaged (c : Dev nD) : (cc0_stg0_0 : Ref sig .tc).ty.Contents (Elt F) :=
  (win0_0.blk (0 : Fin 1)).view.read (Elt F) (m ((c : Thread nD τ).loc main_arg0))
/-- Device `c`'s staged `pi`. -/
def piStaged (c : Dev nD) : (cc0_stg1_0 : Ref sig .tc).ty.Contents (Elt F) :=
  (win0_1.blk (0 : Fin 1)).view.read (Elt F) (m ((c : Thread nD τ).loc main_arg1))

/-- What device `c`'s result array ends with: the mate's block of `x` if the rows are exchanged, else its own. -/
def result (sw : Bool) (c : Dev nD) : (main_v1 : Ref sig .tc).ty.Contents (Elt F) := if sw then xStaged m (mate c) else xStaged m c

/-- Device `c` holds its whole result array, with contents `f`. -/
def outHeld (c : Dev nD) (f : Buf (Elt F) ((c : Thread nD τ).loc main_v1)) : sProp 𝕄 := ((c : Thread nD τ).loc main_v1) ↦{fullShare} f
/-- Device `c` holds its whole staged block of `x`. -/
def xHeld (c : Dev nD) : sProp 𝕄 := ((c : Thread nD τ).loc cc0_stg0_0) ↦{fullShare} (xStaged m c : Buf (Elt F) ((c : Thread nD τ).loc cc0_stg0_0))

instance outHeld_storable (c : Dev nD) (f) : BI.Storable (upEmb : UEmb _ 𝕄) (outHeld (F := F) c f) := by unfold outHeld; infer_instance
instance xHeld_storable (c : Dev nD) : BI.Storable (upEmb : UEmb _ 𝕄) (xHeld (F := F) m c) := by unfold xHeld; infer_instance

/-- Writing a staged block over a whole result array leaves the block. -/
theorem write_block (f : (main_v1 : Ref sig .tc).ty.Contents (Elt F)) (w : (cc0_stg0_0 : Ref sig .tc).ty.Contents (Elt F)) :
    (oM : Memref sig .tc .hbm S1x256x256 .f32).view.write (Elt F) f ((xM : Memref sig .tc .vmem S1x256x256 .f32).view.read (Elt F) w) Finset.univ = w := by
  show (View.whole main_v1).write (Elt F) f ((View.whole cc0_stg0_0).read (Elt F) w) Finset.univ = w
  rw [View.read_whole]
  exact View.write_whole_univ _ _ _

/-! ## The schedule -/

variable (sw : Bool)

/-- The semaphores the protocol pays a unit of work to: the barrier, and either send and receive or the local copy. -/
def live (s : SemLoc sig) : Bool :=
  decide (s = .reg barS) || (sw && (decide (s = .dma sendS) || decide (s = .dma recvS))) || (!sw && decide (s = .dma copyS))

/-- What the payment of device `c`'s barrier unit hands it: the mate's result array, if the rows are exchanged. -/
def barPay (c : Dev nD) : sProp 𝕄 := if sw then iprop(∃ f, outHeld (F := F) (mate c) f) else iprop(emp)
/-- What the payment of device `c`'s receive credit hands it: its result array holding the mate's block. -/
def recvPay (c : Dev nD) : sProp 𝕄 := outHeld c (xStaged m (mate c))
/-- What the payment of device `c`'s copy credit hands it: its result array holding its own block, and the block. -/
def copyPay (c : Dev nD) : sProp 𝕄 := iprop(outHeld c (xStaged m c) ∗ xHeld m c)

instance barPay_storable (c : Dev nD) : BI.Storable (upEmb : UEmb _ 𝕄) (barPay (F := F) sw c) := by unfold barPay; split <;> infer_instance
instance recvPay_storable (c : Dev nD) : BI.Storable (upEmb : UEmb _ 𝕄) (recvPay (F := F) m c) := by unfold recvPay; infer_instance
instance copyPay_storable (c : Dev nD) : BI.Storable (upEmb : UEmb _ 𝕄) (copyPay (F := F) m c) := by unfold copyPay; infer_instance

/-- The payload of a cell of device `c`, by its semaphore. -/
def payOf (s : SemLoc sig) (c : Dev nD) : sProp 𝕄 :=
  if s = .reg barS then barPay sw c else if s = .dma sendS then xHeld m c else if s = .dma recvS then recvPay m c
  else if s = .dma copyS then copyPay m c else iprop(emp)

instance payOf_storable (s : SemLoc sig) (c : Dev nD) : BI.Storable (upEmb : UEmb _ 𝕄) (payOf (F := F) m sw s c) := by
  unfold payOf; (repeat' split) <;> infer_instance

/-- The schedule: one round, in which every live cell of a TensorCore has one duty — a unit for a barrier cell, a block's
    credit for the others — with the payload of `payOf`. -/
def sched : Rounds.Schedule (GSem nD τ sig) Unit 𝕄 where
  duties g r := if r = 0 ∧ g.1.2 = .tc ∧ live sw g.2 = true then {()} else ∅
  unitless _ := False
  amount g _ _ := if g.2 = .reg barS then 1 else blockCredit
  payload g _ _ := payOf m sw g.2 g.1.1
  amount_pos g _ _ _ := by
    by_cases h : g.2 = .reg barS
    · rw [if_pos h]; exact Nat.one_pos
    · rw [if_neg h]; exact blockCredit_pos

instance sched_storable (g : GSem nD τ sig) (r : ℕ) (d : Unit) : BI.Storable (upEmb : UEmb _ 𝕄) ((sched (F := F) m sw).payload g r d) :=
  payOf_storable m sw g.2 g.1.1

/-! ### The schedule read at a cell -/

/-- The one duty of a live cell. -/
theorem duties_live (c : Dev nD) {s : SemLoc sig} (h : live sw s = true) : (sched (F := F) m sw).duties ((c : Thread nD τ), s) 0 = {()} :=
  if_pos ⟨rfl, rfl, h⟩
/-- The duty is there. -/
theorem mem_duties (c : Dev nD) {s : SemLoc sig} (h : live sw s = true) : () ∈ (sched (F := F) m sw).duties ((c : Thread nD τ), s) 0 := by
  rw [duties_live m sw c h]; exact Finset.mem_singleton_self _
/-- A cell that is not live has no duty. -/
theorem duties_idle (c : Dev nD) {s : SemLoc sig} (h : live sw s = false) : ∀ r, 0 ≤ r → (sched (F := F) m sw).duties ((c : Thread nD τ), s) r = ∅ :=
  fun r _ => if_neg fun ⟨_, _, h'⟩ => Bool.noConfusion (h'.symm.trans h)
/-- There is no duty after the first round. -/
theorem duties_after (g : GSem nD τ sig) : ∀ r, 0 + 1 ≤ r → (sched (F := F) m sw).duties g r = ∅ :=
  fun r hr => if_neg fun ⟨h, _⟩ => by omega

/-- A barrier cell's amount is one unit. -/
theorem amount_bar (c : Dev nD) (d : Unit) : (sched (F := F) m sw).amount ((c : Thread nD τ), .reg barS) 0 d = 1 := by
  show (if SemLoc.reg barS = (SemLoc.reg barS : SemLoc sig) then 1 else blockCredit) = 1
  rw [if_pos rfl]
/-- A transfer cell's amount is a block's credit. -/
theorem amount_dma (c : Dev nD) (s : DmaSem sig) (d : Unit) : (sched (F := F) m sw).amount ((c : Thread nD τ), .dma s) 0 d = blockCredit := by
  show (if SemLoc.dma s = (SemLoc.reg barS : SemLoc sig) then 1 else blockCredit) = blockCredit
  rw [if_neg (by intro h; cases h)]

/-- A live cell's round is its amount. -/
theorem expect_live (c : Dev nD) {s : SemLoc sig} (h : live sw s = true) :
    (sched (F := F) m sw).expect ((c : Thread nD τ), s) 0 = (sched (F := F) m sw).amount ((c : Thread nD τ), s) 0 () := by
  unfold Schedule.expect Schedule.amountOf; rw [duties_live m sw c h, Finset.sum_singleton]

/-- All the payloads of a live cell's round are the one of `payOf`. -/
theorem rest_live (c : Dev nD) {s : SemLoc sig} (h : live sw s = true) :
    bigSep ((sched (F := F) m sw).duties ((c : Thread nD τ), s) 0 \ ∅) (fun d => (sched (F := F) m sw).payload ((c : Thread nD τ), s) 0 d) = payOf m sw s c := by
  rw [Finset.sdiff_empty, duties_live m sw c h, bigSep_singleton]; rfl

theorem payOf_bar (c : Dev nD) : payOf (F := F) m sw (.reg barS) c = barPay sw c := if_pos rfl
theorem payOf_send (c : Dev nD) : payOf (F := F) m sw (.dma sendS) c = xHeld m c := by
  unfold payOf; rw [if_neg (by decide), if_pos rfl]
theorem payOf_recv (c : Dev nD) : payOf (F := F) m sw (.dma recvS) c = recvPay m c := by
  unfold payOf; rw [if_neg (by decide), if_neg (by decide), if_pos rfl]
theorem payOf_copy (c : Dev nD) : payOf (F := F) m sw (.dma copyS) c = copyPay m c := by
  unfold payOf; rw [if_neg (by decide), if_neg (by decide), if_neg (by decide), if_pos rfl]

theorem live_bar : live sw (.reg barS) = true := by cases sw <;> decide
theorem live_send : live sw (.dma sendS) = sw := by cases sw <;> decide
theorem live_recv : live sw (.dma recvS) = sw := by cases sw <;> decide
theorem live_copy : live sw (.dma copyS) = !sw := by cases sw <;> decide

/-! ## What a device owes at launch, and the order of the waits -/

/-- What remains owed after the signal: the mate's receive credit, if the rows are exchanged. -/
def owedRecv (c : Dev nD) : CellTallies nD τ sig Unit := tallyAt ((mate c : Thread nD τ), .dma recvS) () (if sw then blockCredit else 0)
/-- What a device owes at launch: besides, the mate's barrier unit. -/
def owedAll (c : Dev nD) : CellTallies nD τ sig Unit := owedRecv sw c + tallyAt ((mate c : Thread nD τ), .reg barS) () 1

/-- The cells of the TensorCores are the ones with a level. -/
def lvlAt (g : GSem nD τ sig) : Finset Unit := if g.1.2 = .tc then {()} else ∅
/-- The levels: a barrier cell at 1, a receive cell at 2, the others at 0. -/
def lvl (g : GSem nD τ sig) (_ : Unit) : ℕ := if g.2 = .reg barS then 1 else if g.2 = .dma recvS then 2 else 0

theorem lvl_bar (t : Thread nD τ) (u : Unit) : lvl (t, .reg barS) u = 1 := if_pos rfl
theorem lvl_recv (t : Thread nD τ) (u : Unit) : lvl (t, .dma recvS) u = 2 := by
  show (if SemLoc.dma recvS = (SemLoc.reg barS : SemLoc sig) then 1 else if SemLoc.dma recvS = (SemLoc.dma recvS : SemLoc sig) then 2 else 0) = 2
  rw [if_neg (by decide), if_pos rfl]
theorem lvlAt_of_ne (g : GSem nD τ sig) (h : g.1.2 ≠ .tc) : lvlAt g = ∅ := if_neg h
theorem mem_lvlAt (c : Dev nD) (s : SemLoc sig) (u : Unit) : u ∈ lvlAt ((c : Thread nD τ), s) := by
  unfold lvlAt; rw [if_pos rfl]; exact Finset.mem_singleton_self _

/-- The debt that remains after the signal stands on the mate's receive cell. -/
theorem owedRecv_pos {c : Dev nD} {g : GSem nD τ sig} {u : Unit} (h : 0 < owedRecv sw c g u) : g = ((mate c : Thread nD τ), .dma recvS) :=
  (Pipeline.tallyAt_pos h).1
/-- The debt at launch stands on the mate's receive or barrier cell. -/
theorem owedAll_pos {c : Dev nD} {g : GSem nD τ sig} {u : Unit} (h : 0 < owedAll sw c g u) :
    g = ((mate c : Thread nD τ), .dma recvS) ∨ g = ((mate c : Thread nD τ), .reg barS) :=
  (Pipeline.add_pos_cases h).imp (owedRecv_pos sw) fun h => (Pipeline.tallyAt_pos h).1

/-- A device may wait for a staging transfer with its whole debt. -/
theorem mayWait_staging (c : Dev nD) (q : DmaSem sig) (hq : SemLoc.dma q ≠ .dma recvS) :
    (levAts lvlAt lvl : sProp 𝕄) ⊢ MayWait (c : Thread nD τ) (.dma q) () (owedAll sw c) :=
  MayOwe.of_cut (L := lvlAt) (lev := lvl) 0 (fun p _ => mem_lvlAt c _ _)
    (fun g u h => by rcases owedAll_pos sw h with rfl | rfl <;> exact mem_lvlAt _ _ _)
    (fun p hp => by rw [Finset.mem_singleton.mp hp]; unfold lvl; rw [if_neg (fun h => by cases h), if_neg hq])
    (fun g u h => by rcases owedAll_pos sw h with rfl | rfl <;> first | rw [lvl_bar]; exact Nat.one_pos | rw [lvl_recv]; exact Nat.two_pos)

/-- A device may wait at its barrier while it owes its mate's receive credit. -/
theorem mayWait_bar (c : Dev nD) : (levAts lvlAt lvl : sProp 𝕄) ⊢ MayWait (c : Thread nD τ) (.reg barS) () (owedRecv sw c) :=
  MayOwe.of_cut (L := lvlAt) (lev := lvl) 1 (fun p _ => mem_lvlAt c _ _)
    (fun g u h => by rw [owedRecv_pos sw h]; exact mem_lvlAt _ _ _)
    (fun p hp => by rw [Finset.mem_singleton.mp hp]; exact (lvl_bar _ _).le)
    (fun g u h => by rw [owedRecv_pos sw h, lvl_recv]; exact Nat.one_lt_two)

end Cert.KernelIdeal.Route

end
-- ==== Proof.IdealSteps.lean ====
/-
  What a device holds of the protocol while the kernel runs, and the steps it takes: the signal to its mate, a wait that
  ends a semaphore's use, the transfer to the mate, the copy on one device.
-/
module

public import proofs.«01_k».proof.Proof.IdealProtocol

@[expose] public section

noncomputable section

namespace Cert.KernelIdeal.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (sw : Bool) (K : GSem nD τ sig → ℕ)

/-- The variants of the proof: none, the kernel has no loop. -/
abbrev 𝒱₀ : Variants := Variants.none

/-- Cell `g` of the protocol is open for use: its invariant is in force under the name `K g` and its first round is reached. -/
def opened (g : GSem nD τ sig) : sProp 𝕄 := iprop(cellInv ER (sched (F := F) m sw) (K g) g ∗ reached ER g 0)
instance opened_persistent (g : GSem nD τ sig) : BI.Persistent (opened (F := F) m sw K g) := by unfold opened; infer_instance

/-- What device `c` knows: its own four cells are open, and its mate's barrier and receive cells. -/
def known (c : Dev nD) : sProp 𝕄 :=
  iprop((opened m sw K (pcell (c, 0)) ∗ opened m sw K (pcell (c, 1)) ∗ opened m sw K (pcell (c, 2)) ∗ opened m sw K (pcell (c, 3)))
    ∗ opened m sw K (pcell (mate c, 0)) ∗ opened m sw K (pcell (mate c, 2)))
instance known_persistent (c : Dev nD) : BI.Persistent (known (F := F) m sw K c) := by unfold known; infer_instance

/-- Device `c` stands at the first round of its cell number `i`. -/
def atStart (c : Dev nD) (i : Fin 4) : sProp 𝕄 := atPos ER (pcell (c, i)) 0 ∅ 0

/-- The cell that device `c` pays with its token number `i`: the mate's barrier and receive cells, its own send and copy cells. -/
def payee (ci : Dev nD × Fin 4) : GSem nD τ sig :=
  match ci.2 with | 0 => pcell (mate ci.1, 0) | 1 => pcell (ci.1, 1) | 2 => pcell (mate ci.1, 2) | 3 => pcell (ci.1, 3)
/-- Device `c`'s token number `i`: the right to pay the duty of that cell. -/
def token (c : Dev nD) (i : Fin 4) : sProp 𝕄 := dutyTok ER (payee (c, i)) 0 ()

/-- Everything of the protocol that device `c` holds at the start. -/
def holds (c : Dev nD) : sProp 𝕄 :=
  iprop(known m sw K c ∗ (atStart (F := F) c 0 ∗ atStart (F := F) c 1 ∗ atStart (F := F) c 2 ∗ atStart (F := F) c 3)
    ∗ (token (F := F) c 0 ∗ token (F := F) c 1 ∗ token (F := F) c 2 ∗ token (F := F) c 3))

/-! ## The steps -/

/-- The signal to the mate: it takes the token and the barrier's payload, and leaves the debt of the receive credit. -/
theorem step_signal (c n : Dev nD) (hn : n = mate c) (W : Waits sig Unit)
    {α : Type} {Q : α → sProp 𝕄} {k : PUnit → Prog (TpuEff nD τ sig (Elt F) Λ₀ .tc) α} :
    iprop(opened m sw K (pcell (mate c, 0)) ∗ owes (c : Thread nD τ) (owedAll sw c) W ∗ token (F := F) c 0 ∗ barPay (F := F) sw (mate c))
      ⊢ iprop((owes (c : Thread nD τ) (owedRecv sw c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS (1#32 : BitVec 32).toInt) k) Q) := by
  subst hn
  rw [show (1#32 : BitVec 32).toInt = ((1#32 : BitVec 32).toNat : Int) from rfl]
  unfold opened token
  iintro ⟨⟨HI, Hr⟩, HO, Ht, Hp⟩ Hk
  iapply (Rounds.wp_signal 𝒱₀ ER (sched m sw) (c : Thread nD τ) none (dst := (mate c : Thread nD τ)) (κ := K (pcell (mate c, 0)))
      (mem_duties m sw (mate c) (live_bar sw)) ((amount_bar m sw (mate c) ()).trans (by decide)) () (O₀ := owedAll sw c) (owedRecv sw c) rfl) $$ [HI HO Ht Hp Hr]
  · isplitl [HI]; · iexact HI
    isplitl [HO]; · iexact HO
    isplitl [Ht]; · iexact Ht
    isplitl [Hp]
    · iapply (show barPay (F := F) sw (mate c) ⊢ (sched m sw).payload ((mate c : Thread nD τ), .reg barS) 0 () from Entails.of_eq (payOf_bar m sw (mate c)).symm); iexact Hp
    iexact Hr
  iexact Hk

/-- A wait on a live cell of the device's own, for the whole round: the payload comes out, and the cell's use is over, so
    its counter is the device's again, at zero. -/
theorem step_wait (c : Dev nD) (s : SemLoc sig) (hs : live sw s = true) {op : TpuEff nD τ sig (Elt F) Λ₀ (c : Thread nD τ).2 PUnit} {n : ℕ}
    (hop : ∀ Q : PUnit → sProp 𝕄, wpE (defs₀ (F := F)) 𝒱₀ (c : Thread nD τ) none Set.univ op Q = waitSpec (c : Thread nD τ) Set.univ s n Q)
    (hn : (sched (F := F) m sw).amount ((c : Thread nD τ), s) 0 () = n) (O : CellTallies nD τ sig Unit) (W : Waits sig Unit)
    {α : Type} {Q : α → sProp 𝕄} {k : PUnit → Prog (TpuEff nD τ sig (Elt F) Λ₀ (c : Thread nD τ).2) α} :
    iprop(opened m sw K ((c : Thread nD τ), s) ∗ cred (tallyAt ((c : Thread nD τ), s) () n) ∗ owes (c : Thread nD τ) O W
        ∗ MayWait (c : Thread nD τ) s () O ∗ atPos ER ((c : Thread nD τ), s) 0 ∅ 0)
      ⊢ iprop(((owes (c : Thread nD τ) O (insert (s, ()) W) ∗ semVal ((c : Thread nD τ), s) 0 ∗ payOf m sw s c)
            -∗ wp frame (wpE (defs₀ (F := F)) 𝒱₀ (c : Thread nD τ) none) Set.univ (k ⟨⟩) Q)
          -∗ wp frame (wpE (defs₀ (F := F)) 𝒱₀ (c : Thread nD τ) none) Set.univ (.op op k) Q) := by
  unfold opened
  iintro ⟨⟨#HI, -⟩, Hc, HO, Hmay, Hat⟩ Hk
  iapply (Rounds.wp_wait_rest_token 𝒱₀ ER (sched m sw) (c : Thread nD τ) none (κ := K ((c : Thread nD τ), s)) hop (Set.mem_univ _) ()
      (O := O) (W := W) (R := 0) (m := 0) (T := ∅) (by rw [Nat.zero_add, expect_live m sw c hs, hn])) $$ [Hc HO Hmay Hat]
  · isplitr; · iexact HI
    isplitl [Hc]; · iexact Hc
    isplitl [HO]; · iexact HO
    isplitl [Hmay]; · iexact Hmay
    iexact Hat
  iintro ⟨HO, Hat, -, Hpay⟩
  imod (Rounds.cell_close ER (sched m sw) (Set.mem_univ (K ((c : Thread nD τ), s))) (fun h => h) (R := 0 + 1) (duties_after m sw _)) $$ [Hat] with Hz
  · isplitr; · iexact HI
    iexact Hat
  iapply Hk
  isplitl [HO]; · iexact HO
  isplitl [Hz]; · iexact Hz
  iapply (Entails.of_eq (rest_live m sw c hs)); iexact Hpay

/-- A cell the protocol never pays a unit to gives its counter back, at zero. -/
theorem close_idle (c : Dev nD) (s : SemLoc sig) (hs : live sw s = false) :
    iprop(opened m sw K ((c : Thread nD τ), s) ∗ atPos ER ((c : Thread nD τ), s) 0 ∅ 0) ⊢ (|={Set.univ}=> semVal ((c : Thread nD τ), s) 0 : sProp 𝕄) := by
  unfold opened
  iintro ⟨⟨HI, -⟩, Hat⟩
  iapply (Rounds.cell_close ER (sched m sw) (Set.mem_univ (K ((c : Thread nD τ), s))) (fun h => h) (R := 0) (duties_idle m sw c hs))
  isplitl [HI]; · iexact HI
  iexact Hat

/-- A whole staged block of `x`, as the transfer names it. -/
theorem xHeld_eq (c : Dev nD) : xHeld (F := F) m c
    = ((xM : Memref sig .tc .vmem S1x256x256 .f32).view.loc (c : Thread nD τ) ↦[(xM : Memref sig .tc .vmem S1x256x256 .f32).view.set]{fullShare} (xStaged m c) : sProp 𝕄) := by
  unfold xHeld; simp only [Memref.view_whole, View.set_whole]
/-- A whole result array, as the transfer names it. -/
theorem outHeld_eq (c : Dev nD) (f : (main_v1 : Ref sig .tc).ty.Contents (Elt F)) : outHeld (F := F) c f
    = ((oM : Memref sig .tc .hbm S1x256x256 .f32).view.loc (c : Thread nD τ) ↦[(oM : Memref sig .tc .hbm S1x256x256 .f32).view.set]{fullShare} f : sProp 𝕄) := by
  unfold outHeld; simp only [Memref.view_whole, View.set_whole]

/-- The transfer of the device's block into the mate's result array, when the rows are exchanged: it takes the block, the
    mate's array and the two tokens, pays the debt off, and leaves the credit to wait for the block's return. -/
theorem step_send (c n : Dev nD) (hn : n = mate c)
    {hsc : (oM : Memref sig (Dev.tc n : Thread nD τ).2.kind .hbm S1x256x256 .f32).view.ref.isScScratch = false}
    {hsrc : (xM : Memref sig .tc .vmem S1x256x256 .f32).view.WordExact} {hdst : (oM : Memref sig .tc .hbm S1x256x256 .f32).view.WordExact}
    {hsem : DmaTarget.Typed .vmem (.dma recvS) (.remote (Dev.tc n : Thread nD τ) (oM : Memref sig .tc .hbm S1x256x256 .f32) (.dma sendS) hsc)}
    {α : Type} {Q : α → sProp 𝕄} {k : PUnit → Prog (TpuEff nD τ sig (Elt F) Λ₀ .tc) α}
    (f : Buf (Elt F) ((oM : Memref sig .tc .hbm S1x256x256 .f32).view.loc (mate c : Thread nD τ))) (W : Waits sig Unit) :
    iprop(opened m true K (pcell (c, 1)) ∗ opened m true K (pcell (mate c, 2)) ∗ xHeld m c ∗ outHeld (mate c) f
        ∗ owes (c : Thread nD τ) (owedRecv true c) W ∗ token (F := F) c 1 ∗ token (F := F) c 2)
      ⊢ iprop(((cred (tallyAt (pcell (c, 1)) () blockCredit) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) oM (.dma sendS) hsc) (.dma recvS) hsrc hdst hsem) k) Q) := by
  subst hn
  rw [xHeld_eq, outHeld_eq]
  unfold opened token
  iintro ⟨⟨HI1, Hr1⟩, ⟨HI2, Hr2⟩, Hx, Ho, HO, Ht1, Ht2⟩ Hk
  iapply (Rounds.wp_send_pointsTo 𝒱₀ ER (sched m true) (c : Thread nD τ) none (κ₁ := K (pcell (c, 1))) (κ₂ := K (pcell (mate c, 2)))
    (r₁ := 0) (r₂ := 0) (d₁ := ()) (d₂ := ()) (fd := f)
    (mem_duties m true c (live_send true)) (mem_duties m true (mate c) (live_recv true))
    () () blockCredit rfl (amount_dma m true c _ ()) (amount_dma m true (mate c) _ ()) 0 (by rw [zero_add]) (W := W)
    (by show _ ⊢ payOf m true (.dma sendS) c; rw [payOf_send, xHeld_eq])
    (by show _ ⊢ payOf m true (.dma recvS) (mate c); rw [payOf_recv]; unfold recvPay; rw [outHeld_eq, mate_mate, write_block])) $$ [HI1 HI2 Hx Ho HO Ht1 Hr1 Ht2 Hr2]
  · isplitl [HI1]; · iexact HI1
    isplitl [HI2]; · iexact HI2
    isplitl [Hx]; · iexact Hx
    isplitl [Ho]; · iexact Ho
    isplitl [HO]; · iexact HO
    isplitl [Ht1]; · iexact Ht1
    isplitl [Hr1]; · iexact Hr1
    isplitl [Ht2]; · iexact Ht2
    iexact Hr2
  iexact Hk

/-- The copy of the device's block into its own result array, when the rows stay: it takes the block, the array and the
    token, and leaves the credit to wait for the copy. -/
theorem step_copy (c : Dev nD)
    {hsrc : (xM : Memref sig .tc .vmem S1x256x256 .f32).view.WordExact} {hdst : (oM : Memref sig .tc .hbm S1x256x256 .f32).view.WordExact}
    {hsem : DmaTarget.Typed (nD := nD) (τ := τ) (p := .tc) .vmem (.dma copyS) (.here (oM : Memref sig .tc .hbm S1x256x256 .f32))}
    {α : Type} {Q : α → sProp 𝕄} {k : PUnit → Prog (TpuEff nD τ sig (Elt F) Λ₀ .tc) α}
    (f : Buf (Elt F) ((oM : Memref sig .tc .hbm S1x256x256 .f32).view.loc (c : Thread nD τ))) :
    iprop(opened m false K (pcell (c, 3)) ∗ xHeld m c ∗ outHeld c f ∗ token (F := F) c 3)
      ⊢ iprop((cred (tallyAt (pcell (c, 3)) () blockCredit) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.here oM) (.dma copyS) hsrc hdst hsem) k) Q) := by
  rw [xHeld_eq, outHeld_eq]
  unfold opened token
  iintro ⟨⟨HI, Hr⟩, Hx, Ho, Ht⟩ Hk
  iapply (Rounds.wp_copy_pointsTo 𝒱₀ ER (sched m false) (c : Thread nD τ) none (κ := K (pcell (c, 3))) (r := 0) (d := ()) (fd := f)
    (mem_duties m false c (live_copy false)) () blockCredit rfl (amount_dma m false c _ ())
    (by show _ ⊢ payOf m false (.dma copyS) c; rw [payOf_copy]; unfold copyPay; rw [outHeld_eq, xHeld_eq, write_block])) $$ [HI Hx Ho Ht Hr]
  · isplitl [HI]; · iexact HI
    isplitl [Hx]; · iexact Hx
    isplitl [Ho]; · iexact Ho
    isplitl [Ht]; · iexact Ht
    iexact Hr
  iexact Hk

end Cert.KernelIdeal.Route

end
-- ==== Proof.IdealBody.lean ====
/-
  The kernel's body, run against the protocol: the word of `pi` it reads and what its conditions come to, and the body
  from what a device holds at the start to its result array filled, once with the rows exchanged and once in place.
-/
module

public import proofs.«01_k».proof.Proof.IdealSteps
public import proofs.«01_k».proof.Proof.Gen.KernelIdeal.Skeleton
public import Idealize.ShloMosaic.Lib.Scf

@[expose] public section

noncomputable section

namespace Cert.KernelIdeal.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (sw : Bool)

/-! ## The word of `pi` that a device reads -/

/-- The word at place `i` of `pi`: the other place if the rows are exchanged, the place itself if they stay. -/
def piWord (sw : Bool) (i : Fin 2) : BitVec 32 := if sw then 1#32 - BitVec.ofNat 32 i.val else BitVec.ofNat 32 i.val

/-- Every device's `pi` is the exchange of the two rows, or leaves them, as `sw` says. -/
def PiIs : Prop := ∀ (c : Dev nD) (i : S2.Idx), (m ((c : Thread nD τ).loc main_arg1) : IVec S2 32) i = piWord sw (i 0)

/-- The place of a device along the mesh axis `z`. -/
def zOf (c : Dev nD) : Fin 2 := ⟨c.val % 2, Nat.mod_lt _ (by decide)⟩

/-- The one-word rectangle of `pi` that a device loads. -/
abbrev piRect (c : Dev nD) : Rect S2 := Rect.unit (s := S2) (k0_off1 c) S1.size (k0_off1_inb c)
/-- The word the load gives. -/
abbrev wordRead (c : Dev nD) (X : (cc0_stg1_0 : Ref sig .tc).ty.Contents (Elt F)) : BitVec 32 :=
  ((Memref.whole cc0_stg1_0).access (piRect c) : View sig .tc _ _ _).read (Elt F) X (Shape.Idx.first (s := S1) (numel1_S1.symm ▸ Nat.one_pos))

/-- The index of `pi` at which a device's word stands. -/
def piIdx (c : Dev nD) : S2.Idx := fun a => ⟨c.val % 2, by fin_cases a; exact Nat.mod_lt _ (by decide)⟩

/-- The load of the staged `pi` reads the device's own place of it. -/
theorem wordRead_staged (c : Dev nD) : wordRead c (piStaged m c) = (m ((c : Thread nD τ).loc main_arg1) : IVec S2 32) (piIdx c) := by
  show (m ((c : Thread nD τ).loc main_arg1) : IVec S2 32) _ = _
  refine congrArg _ (funext fun a => Fin.ext ?_)
  fin_cases a; fin_cases c <;> rfl

/-- So, when `pi` is as `sw` says, the word is `piWord`. -/
theorem wordRead_eq (h : PiIs m sw) (c : Dev nD) : wordRead c (piStaged m c) = piWord sw (zOf c) :=
  (wordRead_staged m c).trans (h c _)

/-- The body's first condition, that the word is the device's own place, fails when the rows are exchanged. -/
theorem stay_cond_swap (c : Dev nD) :
    ¬ Scalar.cmpi .ne (Scalar.extui (Scalar.cmpi .eq (piWord true (zOf c)) (Scalar.remsi (Scalar.divsi (Dev.word c) 1#32) 2#32)) : BitVec 32) 0#32 = 1#1 := by
  revert c; decide
/-- It holds when they stay. -/
theorem stay_cond_stay (c : Dev nD) :
    Scalar.cmpi .ne (Scalar.extui (Scalar.cmpi .eq (piWord false (zOf c)) (Scalar.remsi (Scalar.divsi (Dev.word c) 1#32) 2#32)) : BitVec 32) 0#32 = 1#1 := by
  revert c; decide
/-- The body's second condition, that the word is the other place, holds when the rows are exchanged. -/
theorem move_cond_swap (c : Dev nD) : k0_cond2 c (piWord true (zOf c)) = 1#1 := by revert c; decide
/-- It fails when they stay. -/
theorem move_cond_stay (c : Dev nD) : ¬ k0_cond2 c (piWord false (zOf c)) = 1#1 := by revert c; decide
/-- The device the transfer is addressed to is the mate. -/
theorem send_dev (c : Dev nD) : k0_dev2 c (piWord true (zOf c)) = (mate c).val := by revert c; decide
/-- The body's assumption on the word, that the transfer is addressed to a device of the mesh, holds. -/
theorem word_ok (c : Dev nD) : k0_chk1 c (piWord sw (zOf c)) := by
  intro h
  cases sw
  · exact absurd h (move_cond_stay c)
  · rw [send_dev]; exact (mate c).isLt

/-- The credit of a transfer into the staging buffer is that of a transfer into the result array. -/
theorem credit_x : (xM : Memref sig .tc .vmem S1x256x256 .f32).view.dmaCredit = blockCredit := rfl

/-! ## The body -/

/-- What a device holds of the protocol and of memory when the kernel starts: its cells and tokens, the credit for the
    barrier unit and the receive credit that its mate owes it, the order of the waits, and its result array. -/
def start (c : Dev nD) : sProp 𝕄 :=
  iprop((∃ K, holds (F := F) m sw K c) ∗ cred (tallyAt (pcell (c, 0)) () 1) ∗ cred (tallyAt (pcell (c, 2)) () (if sw then blockCredit else 0))
    ∗ levAts lvlAt lvl ∗ outHeld c (m ((c : Thread nD τ).loc main_v1)))
/-- What a device holds when the kernel ends: its result array filled, and the four counters at zero. -/
def finish (c : Dev nD) : sProp 𝕄 :=
  iprop(outHeld c (result m sw c) ∗ semVal (pcell (c, 0)) 0 ∗ semVal (pcell (c, 1)) 0 ∗ semVal (pcell (c, 2)) 0 ∗ semVal (pcell (c, 3)) 0)

/-- A device holds all of its buffer `b`, with contents `X`. -/
abbrev buffer (c : Dev nD) (b : Ref sig .tc) (X : b.ty.Contents (Elt F)) : sProp 𝕄 :=
  iprop(((c : Thread nD τ).loc b) ↦{fullShare} (X : Buf (Elt F) ((c : Thread nD τ).loc b)))

/-- The body as the launch calls it, on the staging buffers, the result array and the three semaphores. -/
abbrev bodyCall : Prog (TpuEff nD τ sig (Elt F) Λ₀ .tc) PUnit :=
  cc0_body (Memref.whole cc0_stg0_0) (Memref.isWhole_whole _) (Memref.whole cc0_stg1_0) (Memref.isWhole_whole _)
    (Memref.whole main_v1) (Memref.isWhole_whole _) cc0_scratch0 cc0_scratch1 cc0_scratch2

/-- What the body of device `c` starts from. -/
def before (W : Waits sig Unit) (c : Dev nD) : sProp 𝕄 :=
  iprop(start m sw c ∗ owes (c : Thread nD τ) (owedAll sw c) W ∗ buffer c cc0_stg0_0 (xStaged m c) ∗ buffer c cc0_stg1_0 (piStaged m c))
/-- What it ends with. -/
def after (c : Dev nD) : sProp 𝕄 :=
  iprop(finish m sw c ∗ (∃ W, owes (c : Thread nD τ) 0 W) ∗ buffer c cc0_stg0_0 (xStaged m c) ∗ buffer c cc0_stg1_0 (piStaged m c))

set_option maxHeartbeats 2000000 in
/-- The body when the rows are exchanged: signal and lend the result array, wait for the mate's, send the block into it,
    wait for the block back and for the mate's block. -/
theorem body_swap (h : PiIs m true) (W : Waits sig Unit) (c : Dev nD) (Q : PUnit → sProp 𝕄) :
    iprop(before m true W c ∗ (after m true c -∗ Q ⟨⟩)) ⊢ wp frame (wpE (defs₀ (F := F)) 𝒱₀ c none) Set.univ bodyCall Q := by
  unfold bodyCall
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold before start holds known atStart
  iintro ⟨⟨⟨⟨%K, ⟨⟨#H0, #H1, #H2, #H3⟩, #HM0, #HM2⟩, ⟨Ha0, Ha1, Ha2, Ha3⟩, ⟨Ht0, Ht1, Ht2, -⟩⟩, Hc0, Hc2, #Hlev, Hout⟩, HO, Hx, Hpi⟩, Hk⟩
  -- the word of `pi`
  iapply (wp_load_rect 𝒱₀ (c : Thread nD τ) none Set.univ (m := piM) (r := piRect c) (Finset.subset_univ _)) $$ Hpi; iintro Hpi
  have hw : wordRead c (piStaged m c) = piWord true (zOf c) := wordRead_eq m true h c
  have hchk : k0_chk1 c (wordRead c (piStaged m c)) := by rw [hw]; exact word_ok true c
  have hst : ¬ Scalar.cmpi .ne (Scalar.extui (Scalar.cmpi .eq (wordRead c (piStaged m c)) (Scalar.remsi (Scalar.divsi (Dev.word c) 1#32) 2#32)) : BitVec 32) 0#32 = 1#1 := by
    rw [hw]; exact stay_cond_swap c
  have hmv : k0_cond2 c (wordRead c (piStaged m c)) = 1#1 := by rw [hw]; exact move_cond_swap c
  have hdev : k0_dev2 c (wordRead c (piStaged m c)) = (mate c).val := by rw [hw]; exact send_dev c
  simp only [wp_assume_of _ _ _ _ (d := k0_chk1.dec _ _) hchk]
  -- the signal: the mate may write this device's result array
  iapply (step_signal m true K c _ (signal_dev c) W) $$ [HO Ht0 Hout]
  · isplitr; · iexact HM0
    isplitl [HO]; · iexact HO
    isplitl [Ht0]; · iexact Ht0
    unfold barPay; rw [if_pos rfl, mate_mate]
    iexists _; iexact Hout
  iintro HO
  -- the wait on the barrier: the mate's result array comes with it
  iapply (step_wait m true K c (.reg barS) (live_bar true) (wpE_semWait_eq 𝒱₀ (c : Thread nD τ) none Set.univ) ((amount_bar m true c ()).trans (by decide)) (owedRecv true c) W) $$ [Hc0 HO Ha0]
  · isplitr; · iexact H0
    isplitl [Hc0]; · iexact Hc0
    isplitl [HO]; · iexact HO
    isplitr; · iapply (mayWait_bar true c); iexact Hlev
    iexact Ha0
  iintro ⟨HO, Hz0, Hp⟩
  ihave Hp' := (Entails.of_eq ((payOf_bar m true c).trans (if_pos rfl))) $$ Hp
  icases Hp' with ⟨%f, Hmate⟩
  rw [if_neg hst]
  simp only [Prog.bind_ret]
  rw [dif_pos hmv]
  -- the transfer into the mate's result array
  iapply (step_send m K c _ (Fin.ext hdev) f (insert (SemLoc.reg barS, ()) W)) $$ [Hx Hmate HO Ht1 Ht2]
  · isplitr; · iexact H1
    isplitr; · iexact HM2
    isplitl [Hx]; · unfold xHeld; iexact Hx
    isplitl [Hmate]; · iexact Hmate
    isplitl [HO]; · iexact HO
    isplitl [Ht1] <;> iassumption
  iintro ⟨Hc1, HO⟩
  -- the wait for the block back
  iapply (step_wait m true K c (.dma sendS) (live_send true) (wpE_waitDma2_eq (src := oM) (dst := xM) 𝒱₀ (c : Thread nD τ) none Set.univ)
    ((amount_dma m true c sendS ()).trans credit_x.symm) 0 _) $$ [Hc1 HO Ha1]
  · isplitr; · iexact H1
    isplitl [Hc1]; · rw [credit_x]; iexact Hc1
    isplitl [HO]; · iexact HO
    isplitr; · rw [MayWait_zero]; iempintro
    iexact Ha1
  iintro ⟨HO, Hz1, Hp⟩
  ihave Hx := (Entails.of_eq (payOf_send m true c)) $$ Hp
  -- the wait for the mate's block
  iapply (step_wait m true K c (.dma recvS) (live_recv true) (wpE_waitDma2_eq 𝒱₀ (c : Thread nD τ) none Set.univ) (amount_dma m true c recvS ()) 0 _) $$ [Hc2 HO Ha2]
  · isplitr; · iexact H2
    isplitl [Hc2]; · rw [if_pos trivial]; iexact Hc2
    isplitl [HO]; · iexact HO
    isplitr; · rw [MayWait_zero]; iempintro
    iexact Ha2
  iintro ⟨HO, Hz2, Hp⟩
  ihave Hout := (Entails.of_eq (payOf_recv m true c)) $$ Hp
  -- the copy semaphore is not used
  imod (close_idle m true K c (.dma copyS) (live_copy true)) $$ [Ha3] with Hz3
  · isplitr; · iexact H3
    iexact Ha3
  rw [wp_ret]; imodintro
  iapply Hk
  unfold after finish result recvPay xHeld
  rw [if_pos rfl]
  isplitl [Hout Hz0 Hz1 Hz2 Hz3]
  · isplitl [Hout]; · iexact Hout
    isplitl [Hz0]; · iexact Hz0
    isplitl [Hz1]; · iexact Hz1
    isplitl [Hz2] <;> iassumption
  isplitl [HO]; · iexists _; iexact HO
  isplitl [Hx] <;> iassumption

set_option maxHeartbeats 2000000 in
/-- The body when the rows stay: signal, wait for the mate's signal, copy the block into the result array, wait for it. -/
theorem body_stay (h : PiIs m false) (W : Waits sig Unit) (c : Dev nD) (Q : PUnit → sProp 𝕄) :
    iprop(before m false W c ∗ (after m false c -∗ Q ⟨⟩)) ⊢ wp frame (wpE (defs₀ (F := F)) 𝒱₀ c none) Set.univ bodyCall Q := by
  unfold bodyCall
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold before start holds known atStart
  iintro ⟨⟨⟨⟨%K, ⟨⟨#H0, #H1, #H2, #H3⟩, #HM0, #HM2⟩, ⟨Ha0, Ha1, Ha2, Ha3⟩, ⟨Ht0, -, -, Ht3⟩⟩, Hc0, -, #Hlev, Hout⟩, HO, Hx, Hpi⟩, Hk⟩
  -- the word of `pi`
  iapply (wp_load_rect 𝒱₀ (c : Thread nD τ) none Set.univ (m := piM) (r := piRect c) (Finset.subset_univ _)) $$ Hpi; iintro Hpi
  have hw : wordRead c (piStaged m c) = piWord false (zOf c) := wordRead_eq m false h c
  have hchk : k0_chk1 c (wordRead c (piStaged m c)) := by rw [hw]; exact word_ok false c
  have hst : Scalar.cmpi .ne (Scalar.extui (Scalar.cmpi .eq (wordRead c (piStaged m c)) (Scalar.remsi (Scalar.divsi (Dev.word c) 1#32) 2#32)) : BitVec 32) 0#32 = 1#1 := by
    rw [hw]; exact stay_cond_stay c
  have hmv : ¬ k0_cond2 c (wordRead c (piStaged m c)) = 1#1 := by rw [hw]; exact move_cond_stay c
  simp only [wp_assume_of _ _ _ _ (d := k0_chk1.dec _ _) hchk]
  -- the signal: it lends nothing
  iapply (step_signal m false K c _ (signal_dev c) W) $$ [HO Ht0]
  · isplitr; · iexact HM0
    isplitl [HO]; · iexact HO
    isplitl [Ht0]; · iexact Ht0
    unfold barPay; rw [if_neg Bool.false_ne_true]
    iempintro
  iintro HO
  -- the wait on the barrier
  iapply (step_wait m false K c (.reg barS) (live_bar false) (wpE_semWait_eq 𝒱₀ (c : Thread nD τ) none Set.univ) ((amount_bar m false c ()).trans (by decide)) (owedRecv false c) W) $$ [Hc0 HO Ha0]
  · isplitr; · iexact H0
    isplitl [Hc0]; · iexact Hc0
    isplitl [HO]; · iexact HO
    isplitr; · iapply (mayWait_bar false c); iexact Hlev
    iexact Ha0
  iintro ⟨HO, Hz0, -⟩
  rw [show owedRecv false c = 0 from tallyAt_zero _ _]
  rw [if_pos hst]
  simp only [Prog.bind_op, Prog.bind_ret]
  -- the copy into the result array
  iapply (step_copy m K c (m ((c : Thread nD τ).loc main_v1))) $$ [Hx Hout Ht3]
  · isplitr; · iexact H3
    isplitl [Hx]; · unfold xHeld; iexact Hx
    isplitl [Hout] <;> iassumption
  iintro Hc3
  -- the wait for it
  iapply (step_wait m false K c (.dma copyS) (live_copy false) (wpE_waitDma2_eq 𝒱₀ (c : Thread nD τ) none Set.univ) (amount_dma m false c copyS ()) 0 _) $$ [Hc3 HO Ha3]
  · isplitr; · iexact H3
    isplitl [Hc3]; · iexact Hc3
    isplitl [HO]; · iexact HO
    isplitr; · rw [MayWait_zero]; iempintro
    iexact Ha3
  iintro ⟨HO, Hz3, Hp⟩
  ihave Hp' := (Entails.of_eq (payOf_copy m false c)) $$ Hp
  unfold copyPay
  icases Hp' with ⟨Hout, Hx⟩
  rw [dif_neg hmv]
  simp only [Prog.bind_ret]
  -- the send and receive semaphores are not used
  imod (close_idle m false K c (.dma sendS) (live_send false)) $$ [Ha1] with Hz1
  · isplitr; · iexact H1
    iexact Ha1
  imod (close_idle m false K c (.dma recvS) (live_recv false)) $$ [Ha2] with Hz2
  · isplitr; · iexact H2
    iexact Ha2
  rw [wp_ret]; imodintro
  iapply Hk
  unfold after finish result xHeld
  rw [if_neg Bool.false_ne_true]
  isplitl [Hout Hz0 Hz1 Hz2 Hz3]
  · isplitl [Hout]; · iexact Hout
    isplitl [Hz0]; · iexact Hz0
    isplitl [Hz1]; · iexact Hz1
    isplitl [Hz2] <;> iassumption
  isplitl [HO]; · iexists _; iexact HO
  isplitl [Hx] <;> iassumption

/-- The body in either case. -/
theorem body_run (h : PiIs m sw) (W : Waits sig Unit) (c : Dev nD) (Q : PUnit → sProp 𝕄) :
    iprop(before m sw W c ∗ (after m sw c -∗ Q ⟨⟩)) ⊢ wp frame (wpE (defs₀ (F := F)) 𝒱₀ c none) Set.univ bodyCall Q := by
  cases sw
  · exact body_stay m h W c Q
  · exact body_swap m h W c Q

end Cert.KernelIdeal.Route

end
-- ==== Proof.IdealLaunch.lean ====
/-
  The launch of the kernel on the eight devices: the protocol's cells set up for all devices at once, each device's share
  of them handed to it, and the run of the whole program from a memory whose `pi` is as `sw` says.
-/
module

public import proofs.«01_k».proof.Proof.IdealBody
public import proofs.«01_k».proof.Proof.Gen.KernelIdeal.Points
public import Idealize.ShloMosaic.Lib.Pipeline.CollectiveSegs

@[expose] public section

noncomputable section

namespace Cert.KernelIdeal.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

/-! ## The pipeline's data and the body as it asks for it -/

/-- The proof data of the staging pipeline: the arrays as launched, the staged blocks, and what the body starts and ends with. -/
def dats (_ : Fin 1) (c : Dev nD) : Dat τ (Elt F) Unit ℕ UU ℕ cfg0 c where
  A w := m ((cfg0.win w).arr.view.loc (c : Thread nD τ))
  after w _ := match w with
    | ⟨0, _⟩ => xStaged m c
    | ⟨1, _⟩ => piStaged m c
  Φ t := match t with
    | ⟨0, _⟩ => start m sw c
    | ⟨_ + 1, _⟩ => finish m sw c
  q _ := fullShare
  owed t := match t with
    | ⟨0, _⟩ => owedAll sw c
    | ⟨_ + 1, _⟩ => 0

/-- Owning a whole buffer at contents `X` is holding it with contents `X`. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A device holds all of its buffer `b`, with some contents equal to `X`. -/
abbrev holding (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the pipeline hands the body. -/
def handed (c : Dev nD) : sProp 𝕄 :=
  iprop(start m sw c ∗ (dats m sw 0 c).owesAt () t0_0.castSucc
    ∗ (∃ d, holding c cc0_stg0_0 ((dats m sw 0 c).before (0 : Fin 2) t0_0 d))
    ∗ (∃ d, holding c cc0_stg1_0 ((dats m sw 0 c).before (1 : Fin 2) t0_0 d)))
/-- What it takes back. -/
def taken (c : Dev nD) : sProp 𝕄 :=
  iprop(finish m sw c ∗ (dats m sw 0 c).owesAt () t0_0.succ ∗ holding c cc0_stg0_0 (xStaged m c) ∗ holding c cc0_stg1_0 (piStaged m c))

/-- The body does what the pipeline asks of it. -/
theorem body_ok (h : PiIs m sw) (c : Dev nD) : BodyObligation (dats (F := F) m sw 0 c) (defs₀ (F := F)) 𝒱₀ () Set.univ := fun t => by
  rw [fin_N0 t, bigSep_W0, bigSep_W0]
  simp only [owns_buffer]
  show handed m sw c ⊢ wp frame (wpE (defs₀ (F := F)) 𝒱₀ c none) Set.univ bodyCall (fun _ => taken m sw c)
  unfold handed Dat.owesAt Pipeline.owesWithin
  iintro ⟨Hs, ⟨%W, %hW, HO⟩, ⟨%d0, %g0, %hg0, Hx⟩, ⟨%d1, %g1, %hg1, Hp⟩⟩
  have hx : g0 = xStaged m c := by rw [hg0]; unfold Dat.before; rw [if_pos (fetch0_0 t0_0)]; rfl
  subst hx
  have hp : g1 = piStaged m c := by rw [hg1]; unfold Dat.before; rw [if_pos (fetch0_1 t0_0)]; rfl
  subst hp
  iapply (body_run m sw h W c)
  isplitl [Hs HO Hx Hp]
  · unfold before
    isplitl [Hs]; · iexact Hs
    isplitl [HO]; · iexact HO
    isplitl [Hx] <;> iassumption
  unfold after taken Dat.owesAt Pipeline.owesWithin
  iintro ⟨Hf, ⟨%W', HO⟩, Hx, Hp⟩
  isplitl [Hf]; · iexact Hf
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hp

/-! ## The set-up of the protocol -/

/-- The protocol's cells, on all devices. -/
def allCells : Finset (GSem nD τ sig) := Finset.univ.map ⟨pcell, pcell_injective⟩

/-- Two tokens of one number pay different cells, and tokens of different numbers too. -/
theorem payee_injective : Function.Injective (payee : Dev nD × Fin 4 → GSem nD τ sig) := by
  rintro ⟨c, i⟩ ⟨d, j⟩ h
  have hm : ∀ a b : Dev nD, mate a = mate b → a = b := fun a b e => by rw [← mate_mate a, e, mate_mate]
  fin_cases i <;> fin_cases j <;> have e := Prod.mk.inj (pcell_injective h) <;>
    first
      | exact absurd e.2 (by decide)
      | exact Prod.ext (hm _ _ e.1) rfl
      | exact Prod.ext e.1 rfl
/-- The tokens of all devices. -/
def allTokens : Finset (GSem nD τ sig × ℕ × Unit) :=
  Finset.univ.map ⟨fun ci => (payee ci, 0, ()), fun _ _ h => payee_injective (congrArg Prod.fst h)⟩

/-- The ghost state at launch: the pipeline's, and the protocol's. -/
def ghost₀ : UU := (initOf (Pipeline.cells cfgs cellOf_inj) (Pipeline.launchToks cfgs cellOf_inj), launchOf allCells ∅ allTokens)

/-- The protocol's ghost state before the set-up, all of it in the first device's hands. -/
def dealt (c : Dev nD) : sProp 𝕄 := if c = 0 then BI.own (ER (launchOf allCells ∅ allTokens)) else iprop(emp)

/-- All the devices' hands together are the first device's. -/
theorem dealt_all : (bigSep Finset.univ (dealt (F := F)) : sProp 𝕄) = BI.own (ER (launchOf allCells ∅ allTokens)) := by
  rw [bigSep_univ_at _ (0 : Dev nD), bigSep_congr (s := Finset.univ.erase (0 : Dev nD)) (Ψ := fun _ => (BI.emp : sProp 𝕄))
    (fun c hc => by unfold dealt; rw [if_neg (Finset.ne_of_mem_erase hc)]; rfl), bigSep_emp_const]
  unfold dealt; rw [if_pos rfl]
  exact BI.Entails.antisymm (sep_emp (PROP := sProp 𝕄)).1 (sep_emp (PROP := sProp 𝕄)).2

/-- A device's share of the protocol after the set-up. -/
def shared (c : Dev nD) : sProp 𝕄 := iprop(∃ K, holds m sw K c)

/-- Four pieces, one by one. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Pieces over the protocol's cells are pieces over the devices and the four semaphores. -/
theorem bigSep_cells (Φ : GSem nD τ sig → sProp 𝕄) :
    bigSep allCells Φ = bigSep Finset.univ fun c : Dev nD => iprop(Φ (pcell (c, 0)) ∗ Φ (pcell (c, 1)) ∗ Φ (pcell (c, 2)) ∗ Φ (pcell (c, 3))) := by
  unfold allCells; rw [bigSep_map, bigSep_univ_prod]
  exact bigSep_congr fun c _ => bigSep_four _
/-- The tokens are each device's four. -/
theorem bigSep_tokens : (bigSep allTokens (fun x => dutyTok ER x.1 x.2.1 x.2.2) : sProp 𝕄)
    = bigSep Finset.univ fun c : Dev nD => iprop(token (F := F) c 0 ∗ token (F := F) c 1 ∗ token (F := F) c 2 ∗ token (F := F) c 3) := by
  unfold allTokens; rw [bigSep_map, bigSep_univ_prod]
  exact bigSep_congr fun c _ => bigSep_four _

/-- The kernel's own counters at zero are the counters of its three semaphores. -/
theorem own_counters (c : Dev nD) : (Pipeline.ownSems0 (Ix := Unit) (Name := ℕ) (U := UU) (Lvl := ℕ) (Val := Elt F) (τ := τ) osem c : sProp 𝕄)
    = iprop(semVal (pcell (c, 1)) 0 ∗ semVal (pcell (c, 2)) 0 ∗ semVal (pcell (c, 3)) 0) := by
  rw [Pipeline.ownSems0_eq_of_list c osem [0, 1, 2] (by decide) (by decide)]; rfl
/-- The barrier is the only semaphore that outlives the kernel. -/
theorem bar_counter (c : Dev nD) : (unscopedSems0 c : sProp 𝕄) = semVal (pcell (c, 0)) 0 := by
  unfold unscopedSems0; rw [bigSep_eq_bigSepL_of_eq [SemLoc.reg barS] (by decide) (by decide)]; rfl

/-- A device's counters at zero, and its hands, are the counters of its four cells and its hands. -/
theorem counters_of (c : Dev nD) :
    iprop(Pipeline.ownSems0 (Ix := Unit) (Name := ℕ) (U := UU) (Lvl := ℕ) (Val := Elt F) (τ := τ) osem c ∗ unscopedSems0 c ∗ dealt (F := F) c)
      ⊢ (iprop((semVal (pcell (c, 0)) 0 ∗ semVal (pcell (c, 1)) 0 ∗ semVal (pcell (c, 2)) 0 ∗ semVal (pcell (c, 3)) 0) ∗ dealt (F := F) c) : sProp 𝕄) := by
  rw [own_counters, bar_counter]
  iintro ⟨⟨H1, H2, H3⟩, H0, Hd⟩
  isplitr [Hd]
  · isplitl [H0]; · iexact H0
    isplitl [H1]; · iexact H1
    isplitl [H2] <;> iassumption
  iexact Hd

/-- Every cell of the protocol is open, under the names `K`. -/
def allOpen (K : GSem nD τ sig → ℕ) : sProp 𝕄 :=
  iprop(bigSep allCells (fun g => cellInv ER (sched (F := F) m sw) (K g) g) ∗ bigSep allCells (fun g => reached ER g 0))
instance allOpen_persistent (K : GSem nD τ sig → ℕ) : BI.Persistent (allOpen (F := F) m sw K) := by unfold allOpen; infer_instance

/-- So any one of them is. -/
theorem opened_of_all (K : GSem nD τ sig → ℕ) (ck : Dev nD × Fin 4) : allOpen (F := F) m sw K ⊢ opened m sw K (pcell ck) := by
  have hmem : pcell ck ∈ allCells := Finset.mem_map_of_mem _ (Finset.mem_univ ck)
  unfold allOpen opened
  exact (sep_mono_left (bigSep_elim hmem)).trans (sep_mono_right (bigSep_elim hmem))

/-- With all cells open, a device's places and tokens make its share. -/
theorem share_of (K : GSem nD τ sig → ℕ) (c : Dev nD) :
    iprop(allOpen (F := F) m sw K
        ∗ (atPos ER (pcell (c, 0)) 0 ∅ 0 ∗ atPos ER (pcell (c, 1)) 0 ∅ 0 ∗ atPos ER (pcell (c, 2)) 0 ∅ 0 ∗ atPos ER (pcell (c, 3)) 0 ∅ 0)
        ∗ (token (F := F) c 0 ∗ token (F := F) c 1 ∗ token (F := F) c 2 ∗ token (F := F) c 3)) ⊢ shared m sw c := by
  unfold shared holds known atStart
  iintro ⟨#HA, Hat, Ht⟩
  iexists K
  isplitr
  · isplitr
    · isplitr; · iapply (opened_of_all m sw K (c, 0)); iexact HA
      isplitr; · iapply (opened_of_all m sw K (c, 1)); iexact HA
      isplitr; · iapply (opened_of_all m sw K (c, 2)); iexact HA
      iapply (opened_of_all m sw K (c, 3)); iexact HA
    isplitr; · iapply (opened_of_all m sw K (mate c, 0)); iexact HA
    iapply (opened_of_all m sw K (mate c, 2)); iexact HA
  isplitl [Hat] <;> iassumption

/-- The set-up: from all devices' counters at zero and the protocol's ghost state, every device's share. -/
theorem set_up :
    (bigSep Finset.univ fun c => iprop(Pipeline.ownSems0 (Ix := Unit) (Name := ℕ) (U := UU) (Lvl := ℕ) (Val := Elt F) (τ := τ) osem c ∗ unscopedSems0 c ∗ dealt (F := F) c) : sProp 𝕄)
      ⊢ |={Set.univ}=> bigSep Finset.univ (shared (F := F) m sw) := by
  have hsem : (bigSep Finset.univ fun c => iprop(Pipeline.ownSems0 (Ix := Unit) (Name := ℕ) (U := UU) (Lvl := ℕ) (Val := Elt F) (τ := τ) osem c ∗ unscopedSems0 c ∗ dealt (F := F) c) : sProp 𝕄)
      ⊢ iprop(bigSep allCells (fun g => (semVal g 0 : sProp 𝕄)) ∗ BI.own (ER (launchOf allCells ∅ allTokens))) := by
    rw [← dealt_all, bigSep_cells, ← bigSep_sep']
    exact bigSep_mono fun c _ => counters_of c
  refine hsem.trans ((Rounds.fund_launch ER (sched (F := F) m sw) (Finset.disjoint_empty_right _) (fun g hg => absurd hg (Finset.notMem_empty g)) allTokens).trans (BI.fupd_mono ?_))
  rw [Finset.union_empty, bigSep_cells (fun g => atPos ER g 0 ∅ 0), bigSep_tokens]
  iintro ⟨%K, -, HI, HR, Hat, -, Ht⟩
  iapply (show iprop(allOpen (F := F) m sw K ∗ bigSep Finset.univ fun c : Dev nD =>
        iprop((atPos ER (pcell (c, 0)) 0 ∅ 0 ∗ atPos ER (pcell (c, 1)) 0 ∅ 0 ∗ atPos ER (pcell (c, 2)) 0 ∅ 0 ∗ atPos ER (pcell (c, 3)) 0 ∅ 0)
          ∗ (token (F := F) c 0 ∗ token (F := F) c 1 ∗ token (F := F) c 2 ∗ token (F := F) c 3)))
      ⊢ bigSep Finset.univ (shared (F := F) m sw) from
    (sep_mono_left (BI.bigSep_of_persistent Finset.univ (allOpen (F := F) m sw K))).trans
      (by rw [← bigSep_sep']; exact bigSep_mono fun c _ => share_of m sw K c))
  isplitl [HI HR]
  · unfold allOpen
    isplitl [HI] <;> iassumption
  iapply (Entails.of_eq (bigSep_sep' Finset.univ _ _).symm)
  isplitl [Hat] <;> iassumption

/-! ## The launch's conditions -/

/-- The kernel's own semaphores are three different ones, none of the pipeline's. -/
theorem ownSemFacts : Pipeline.OwnSemFacts cfg0.spec osem := by decide
/-- Every window's array is held whole. -/
theorem share_full (c : Dev nD) (w : Fin cfg0.W) : (dats (F := F) m sw 0 c).share w = fullShare := by unfold Dat.share; split <;> rfl

/-- The credit that a device has at launch: its mate's debts to it. -/
theorem credits (c : Dev nD) : (Pipeline.launchCred (owedAll sw) c : sProp 𝕄)
    ⊢ iprop(cred (tallyAt (pcell (c, 2)) () (if sw then blockCredit else 0)) ∗ cred (tallyAt (pcell (c, 0)) () 1)) := by
  rw [show owedAll sw = fun d => owedRecv sw d + tallyAt ((mate d : Thread nD τ), .reg barS) () 1 from rfl, Pipeline.launchCred_add]
  exact (sep_mono_left (Pipeline.launchCred_tallyAt (.dma recvS) mate mate mate_mate mate_mate () _ c)).trans
    (sep_mono_right (Pipeline.launchCred_tallyAt (.reg barS) mate mate mate_mate mate_mate () 1 c))

/-- What a device is launched with makes the body's start. -/
theorem start_of (c : Dev nD) :
    iprop(Pipeline.unscopedRestP Pipeline.Prefetch.none cfg0.spec c (fun b => m ((c : Thread nD τ).loc b)) ∗ levAts lvlAt lvl
        ∗ Pipeline.launchCred (owedAll sw) c ∗ prngReg c (ρ c) ∗ shared (F := F) m sw c)
      ⊢ |={Set.univ}=> iprop(start m sw c ∗ emp) := by
  rw [Pipeline.unscopedRestP_none]
  rw [show (Pipeline.unscopedRest cfg0.spec c (fun b => m ((c : Thread nD τ).loc b)) : sProp 𝕄) = outHeld c (m ((c : Thread nD τ).loc main_v1)) from unscopedRest0_eq c _]
  iintro ⟨Hout, Hlev, Hcr, -, HS⟩
  ihave Hc := (credits (F := F) sw c) $$ Hcr
  icases Hc with ⟨H2, H0⟩
  imodintro
  isplitl
  · unfold start shared
    isplitl [HS]; · iexact HS
    isplitl [H0]; · iexact H0
    isplitl [H2]; · iexact H2
    isplitl [Hlev] <;> iassumption
  · iempintro

/-- The body's start is the pipeline's first state. -/
theorem enter (c : Dev nD) :
    iprop(start m sw c ∗ Pipeline.prefHeld Pipeline.Prefetch.none c (fun _ => fullShare.right) (fun k => k.elim0) ∗ Pipeline.scopedRest cfg0.spec c)
      ⊢ (dats (F := F) m sw 0 c).Φ 0 := by
  rw [show (dats (F := F) m sw 0 c).Φ 0 = start m sw c from rfl]
  iintro ⟨Hs, -, -⟩; iexact Hs

/-- What a device keeps after the kernel: its result array and the barrier's counter at zero. -/
def kept (c : Dev nD) : sProp 𝕄 := iprop(outHeld c (result m sw c) ∗ unscopedSems0 c)

/-- The pipeline's last state gives it, and the kernel's own counters back at zero. -/
theorem leave (c : Dev nD) :
    (dats (F := F) m sw 0 c).Φ (Fin.last cfg0.N) ⊢ iprop(kept m sw c ∗ Pipeline.ownSems0 osem c ∗ Pipeline.scopedRest cfg0.spec c) := by
  rw [show (dats (F := F) m sw 0 c).Φ (Fin.last cfg0.N) = finish m sw c from rfl, scopedRest0_eq, own_counters]
  unfold finish kept
  rw [bar_counter]
  iintro ⟨Hout, H0, H1, H2, H3⟩
  isplitl [Hout H0]
  · isplitl [Hout] <;> iassumption
  isplitr []
  · isplitl [H1]; · iexact H1
    isplitl [H2] <;> iassumption
  iempintro

/-- The staging transfers may be waited for. -/
theorem staging_waits (c : Dev nD) : (levAts lvlAt lvl : sProp 𝕄) ⊢ Pipeline.cellsWaits cfgs (dats (F := F) m sw) () 0 c :=
  Pipeline.cellsWaits_intro cfgs (dats m sw) () 0 c fun w s t => by
    rcases t with ⟨_ | _, ht⟩
    · exact mayWait_staging sw c _ (by fin_cases w <;> fin_cases s <;> decide)
    · show _ ⊢ MayWait (c : Thread nD τ) _ () 0
      rw [MayWait_zero]; iintro -; iempintro

/-- What is read of a device's final state: its result array, and that no semaphore outliving the kernel is left up. -/
def seen (c : Dev nD) (s : MemSt nD τ sig (Elt F)) : Prop :=
  s.mem ((c : Thread nD τ).loc main_v1) = result m sw c ∧ ∀ sm : SemLoc sig, sm.isScoped .tc = false → s.sem ((c : Thread nD τ), sm) = 0

/-- It is read off what a device keeps. -/
theorem read_kept (c : Dev nD) (s' : Phys nD τ sig (Elt F)) :
    iprop(kept (F := F) m sw c ∗ SI s') ⊢ |={Set.univ}=> iprop(⌜seen m sw c s'.mem⌝ ∗ SI s') := by
  unfold kept
  iintro ⟨⟨Hout, Hu⟩, HSI⟩
  ihave %hv := (show iprop(SI s' ∗ outHeld (F := F) c (result m sw c)) ⊢ ⌜s'.mem.mem ((c : Thread nD τ).loc main_v1) = result m sw c⌝ from
    SI_pointsTo_agree.trans (BI.pure_mono Buf.eq_of_forall_mem_univ)) $$ [Hout HSI]
  · isplitl [HSI] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨hv, hs⟩
  iexact HSI

/-! ## The run -/

/-- The staged block of `x` is the device's whole array. -/
theorem xStaged_eq (c : Dev nD) : xStaged m c = m ((c : Thread nD τ).loc main_arg0) := by
  funext i
  show m ((c : Thread nD τ).loc main_arg0) _ = _
  refine congrArg _ (funext fun a => Fin.ext ?_)
  fin_cases a <;> exact (Nat.zero_add _).trans (Nat.one_mul _)

/-- What a device's result array ends with: its mate's array of `x` if the rows are exchanged, else its own. -/
def answer (c : Dev nD) : Buf (Elt F) ((c : Thread nD τ).loc main_v1) :=
  if sw then m ((mate c : Thread nD τ).loc main_arg0) else m ((c : Thread nD τ).loc main_arg0)

theorem result_eq (c : Dev nD) : result m sw c = answer m sw c := by
  unfold result answer; rw [xStaged_eq, xStaged_eq]

/-- The final states: on every device the result array is the answer and the two arguments are as launched. -/
def Done (s : MemSt nD τ sig (Elt F)) : Prop :=
  ∀ c : Dev nD, s.mem ((c : Thread nD τ).loc main_v1) = answer m sw c
    ∧ s.mem ((c : Thread nD τ).loc main_arg0) = m ((c : Thread nD τ).loc main_arg0)
    ∧ s.mem ((c : Thread nD τ).loc main_arg1) = m ((c : Thread nD τ).loc main_arg1)

set_option maxRecDepth 8000 in
/-- From any memory whose `pi` is as `sw` says, with all counters at zero: the program ends on every schedule, in a final
    state of `Done`, with every counter at zero. -/
theorem run_main (h : PiIs m sw) :
    θ_run defs (onTc (τ := τ) (main (F := F))) ⟨m, fun _ => 0, ρ⟩ (fun r => Done m sw r.2 ∧ r.2.sem = fun _ => 0) :=
  Pipeline.θ_run_region_owing_glob_pf (fun p => (cfgs p).toPCfg) (fun p => (cfgs p).toPCfg_adm) (dats m sw) () cellOf_inj (0 : Fin 1)
    winFacts0.to₀ ownSemFacts (Pipeline.PreFacts.none _) EP defs₀ 𝒱₀ m ρ main
    (hmain := fun _ => rfl)
    (hbody := body_ok m sw h) (hne := block_pos0) (harr := arr_whole0) (hstage := stage_whole0) (hshare := share_full m sw)
    (hdistinct := winFacts0.arr_inj)
    (O₀ := owedAll sw) (howed₀ := fun _ => rfl) (howedN := fun _ => rfl)
    (L := lvlAt) (lv := lvl) (hL := lvlAt_of_ne) (hwaits := staging_waits m sw)
    (G := dealt) (G' := shared m sw) (u₀ := ghost₀)
    (hu₀ := by
      unfold ghost₀
      rw [dealt_all]
      iintro Hu
      ihave H := (ownU_pair _ _) $$ Hu
      icases H with ⟨HP, HX⟩
      imodintro
      isplitl [HP] <;> iassumption)
    (hglob := set_up m sw)
    (hA := fun _ _ => rfl) (hpf := fun _ k => k.elim0)
    (X := start m sw) (Y := kept m sw) (Z := fun _ => iprop(emp))
    (hX := start_of m ρ sw) (hin := enter m sw) (hout := leave m sw)
    (QY := seen m sw)
    (hY := fun c s' => by
      iintro ⟨Hk, -, HSI⟩
      iapply (read_kept m sw c s')
      isplitl [Hk] <;> iassumption)
    (hQ := fun _ hr hs => ⟨fun c => ⟨(hr c).2.2.1.trans (result_eq m sw c),
      ((hr c).1 (0 : Fin 2)).trans ((dats (F := F) m sw 0 c).arrAt_in (0 : Fin 2) rfl _),
      ((hr c).1 (1 : Fin 2)).trans ((dats (F := F) m sw 0 c).arrAt_in (1 : Fin 2) rfl _)⟩,
      sem_eq_zero hs fun c => (hr c).2.2.2⟩)

end Cert.KernelIdeal.Route

end
-- ==== Proof.Conditions.lean ====
/-
  What the two preconditions say of `pi`, entry by entry, on either program's memory.
-/
module

public import proofs.«01_k».proof.Defs
public import proofs.«01_k».proof.Proof.Gen.Pre_swaps_Kernel
public import proofs.«01_k».proof.Proof.Gen.Pre_stays_Kernel
public import proofs.«01_k».proof.Proof.KernelLaunch
public import proofs.«01_k».proof.Proof.IdealLaunch

@[expose] public section

noncomputable section

namespace Cert.Conditions

open Idealize.ShloMosaic

/-- Two words whose comparison for equality answers yes are equal. -/
theorem eq_of_yes {a b : BitVec 32} (h : IntOp.cmpi .eq a b = 1#1) : a = b := by
  have h' : BitVec.ofBool (a == b) = 1#1 := h
  cases e : (a == b)
  · rw [e] at h'; exact absurd h' (by decide)
  · exact eq_of_beq e

/-- The kernel's `pi` exchanges the rows where `swaps` holds. -/
theorem kernel_swaps (m : (ℓ : Loc Cert.Kernel.nD Cert.Kernel.τ Cert.Kernel.sig) → Buf (Elt Bits) ℓ) (h : Pre_Kernel m) :
    Cert.Kernel.Route.PiIs m true := fun c i => eq_of_yes (congrFun (h c) i)

/-- The kernel's `pi` leaves the rows in place where `stays` holds. -/
theorem kernel_stays (m : (ℓ : Loc Cert.Kernel.nD Cert.Kernel.τ Cert.Kernel.sig) → Buf (Elt Bits) ℓ) (h : Pre_Kernel_stays_Kernel m) :
    Cert.Kernel.Route.PiIs m false := fun c i => eq_of_yes (congrFun (h c) i)

/-- The same of the kernel over the extended reals: `swaps`. -/
theorem ideal_swaps (m : (ℓ : Loc Cert.KernelIdeal.nD Cert.KernelIdeal.τ Cert.KernelIdeal.sig) → Buf (Elt Ideal) ℓ)
    (h : Pre_KernelIdeal m) : Cert.KernelIdeal.Route.PiIs m true := fun c i => eq_of_yes (congrFun (h c) i)

/-- The same of the kernel over the extended reals: `stays`. -/
theorem ideal_stays (m : (ℓ : Loc Cert.KernelIdeal.nD Cert.KernelIdeal.τ Cert.KernelIdeal.sig) → Buf (Elt Ideal) ℓ)
    (h : Pre_KernelIdeal_stays_Kernel m) : Cert.KernelIdeal.Route.PiIs m false := fun c i => eq_of_yes (congrFun (h c) i)

end Cert.Conditions

end
-- ==== Proof.RefValue.lean ====
/-
  What the reference leaves in its result when `pi` exchanges the two rows of `x` or leaves them in place: the sort's
  positions are `pi` itself, no index is negative, and the rows are taken in that order.
-/
module

public import proofs.«01_k».proof.Proof.Gen.ReferenceIdeal.Run

@[expose] public section

noncomputable section

namespace Cert.ReferenceIdeal.Route

open Cert.ReferenceIdeal Cert.ReferenceIdeal.Gen
open Idealize.ShloMosaic

/-- Row `i`'s partner: the other row when the two are exchanged, itself when they stay. -/
def partner (sw : Bool) (i : Fin 2) : Fin 2 := if sw then 1 - i else i

/-- The entries of `pi`: `[1, 0]` when the rows are exchanged, `[0, 1]` when they stay. -/
def order (sw : Bool) : IVec S2 32 := fun i => if sw then 1#32 - BitVec.ofNat 32 (i 0).val else BitVec.ofNat 32 (i 0).val

/-- Sorting `pi` with the positions beside it leaves the positions in the order `pi` itself: an exchange is its own inverse. -/
theorem sorted (sw : Bool) : (Host.sort2 S2 0 comparator_i32_i32_d0 (order sw) (iotaInDim S2 32 0)).2 = order sw := by
  unfold comparator_i32_i32_d0
  cases sw
  · decide
  · decide

/-- None of these positions is negative, so the correction for negative indices changes nothing. -/
theorem corrected (sw : Bool) :
    (select (cmpi .slt (order sw) (broadcastInDim S2 ![] bcast_S_S2 (constantI S_ 32 0#32)))
      (addi (order sw) (broadcastInDim S2 ![] bcast_S_S2 (constantI S_ 32 2#32))) (order sw) : IVec S2 32) = order sw := by
  cases sw
  · decide
  · decide

/-- The gather's row numbers: the order, as a column. -/
def column (sw : Bool) : IVec S2x1 32 := broadcastInDim S2x1 ![0] bcast_S2_S2x1_0 (order sw)

/-- A row number read signed and kept inside the array is the partner of its position. -/
theorem row_eq (sw : Bool) (i : Fin 2) :
    min (if sw then 1#32 - BitVec.ofNat 32 i.val else BitVec.ofNat 32 i.val).toInt.toNat 1 = (partner sw i).val := by
  revert sw i; decide

/-- The gather takes, for result row `i`, the operand's row `partner i`. -/
theorem gathered {α : Type} (sw : Bool) (x : S2x256x256.Idx → α) (j : S2x256x256.Idx) :
    Host.gather gather_S2x256x256_S2x1_S2x256x256_12_0_n_n_0_1_1256256 x (column sw) j
      = x (fun a => match a with | ⟨0, _⟩ => partner sw (j 0) | ⟨1, _⟩ => j 1 | ⟨2, _⟩ => j 2) := by
  unfold Host.gather
  congr 1
  funext a
  refine Fin.ext ?_
  match a with
  | ⟨0, _⟩ => exact row_eq sw (j 0)
  | ⟨1, _⟩ => exact Nat.zero_add _
  | ⟨2, _⟩ => exact Nat.zero_add _

end Cert.ReferenceIdeal.Route

end
-- ==== Proof.IdealAnswer.lean ====
/-
  The blocks the devices end with are the blocks of the reference's result: a device's block of the rows taken in the
  order `pi` is its mate's block of `x` when the rows are exchanged, its own when they stay.
-/
module

public import proofs.«01_k».proof.Proof.IdealLaunch
public import proofs.«01_k».proof.Proof.RefValue
public import Idealize.ShloMosaic.Lib.Layout

@[expose] public section

noncomputable section

namespace Cert.KernelIdeal.Route

open Cert.KernelIdeal Cert.KernelIdeal.Gen
open Idealize.ShloMosaic Idealize.ShloMosaic.TcCoe
open Cert.ReferenceIdeal.Route (partner gathered column)

/-- Device `c`'s block of a whole array of two rows: its row is the device's last mesh coordinate. -/
abbrev blockOf {α : Type} (c : Dev nD) (v : (⟨3, ![2, 256, 256]⟩ : Shape).Idx → α) : (⟨3, ![1, 256, 256]⟩ : Shape).Idx → α :=
  Layout.blockN ⟨3, ![1, 256, 256]⟩ ⟨3, ![2, 256, 256]⟩ (Layout.meshBlock [2, 2, 2] ![[2], [], []] c) v

/-- The device whose block of `x` device `c` ends with. -/
def source (sw : Bool) (c : Dev nD) : Dev nD := if sw then mate c else c

/-- On the coordinate the array is cut along, the source of `c` is the partner of `c`. -/
theorem partner_cut (sw : Bool) (c : Dev nD) (r : Fin 2) (hr : r.val = Layout.meshLin [2, 2, 2] c.val [2]) :
    (partner sw r).val = Layout.meshLin [2, 2, 2] (source sw c).val [2] := by
  revert sw c r; decide

/-- Device `c`'s block of the gathered rows is its source's block of the operand. -/
theorem block_gathered {α : Type} (sw : Bool) (c : Dev nD) (x : (⟨3, ![2, 256, 256]⟩ : Shape).Idx → α) :
    blockOf (source sw c) x
      = blockOf c (Host.gather Cert.ReferenceIdeal.gather_S2x256x256_S2x1_S2x256x256_12_0_n_n_0_1_1256256 x (column sw)) := by
  funext i
  show x _ = Host.gather _ x (column sw) _
  rw [gathered]
  congr 1
  funext a
  refine Fin.ext ?_
  have h0 : (i 0).val = 0 := Nat.lt_one_iff.mp (i 0).isLt
  match a with
  | ⟨0, _⟩ =>
    show Layout.meshLin [2, 2, 2] (source sw c).val [2] * 1 + (i 0).val = _
    rw [h0, Nat.mul_one, Nat.add_zero]
    refine (partner_cut sw c _ ?_).symm
    show Layout.meshLin [2, 2, 2] c.val [2] * 1 + (i 0).val = _
    rw [h0, Nat.mul_one, Nat.add_zero]
  | ⟨1, _⟩ => rfl
  | ⟨2, _⟩ => rfl

/-- What device `c` ends with, when every device starts with its block of `x`: its block of the gathered rows. -/
theorem answer_eq {F : FTy → Type} [FloatOps F] (m : (ℓ : Loc nD τ sig) → Buf (Elt F) ℓ) (sw : Bool)
    (x : (⟨3, ![2, 256, 256]⟩ : Shape).Idx → Elt F .f32)
    (hx : ∀ c : Dev nD, m ((c : Thread nD τ).loc main_arg0) = blockOf c x) (c : Dev nD) :
    answer m sw c
      = blockOf c (Host.gather Cert.ReferenceIdeal.gather_S2x256x256_S2x1_S2x256x256_12_0_n_n_0_1_1256256 x (column sw)) := by
  refine Eq.trans ?_ (block_gathered sw c x)
  cases sw
  · exact hx c
  · exact hx (mate c)

end Cert.KernelIdeal.Route

end
-- ==== Proof.Claims.lean ====
/-
  The claims of the certificate, each from the run it is about: the frames of the two kernels and of the reference, and
  the equality of the kernel's blocks with the blocks of the reference's result.
-/
module

public import proofs.«01_k».proof.Proof.Conditions
public import proofs.«01_k».proof.Proof.IdealAnswer
public import proofs.«01_k».proof.Proof.Gen.Pre_swaps_ReferenceIdeal
public import proofs.«01_k».proof.Proof.Gen.Pre_stays_ReferenceIdeal
public import Idealize.ShloMosaic.Lib.Quiescent

@[expose] public section

noncomputable section

namespace Cert.Claims

open Idealize.ShloMosaic Idealize.SL.Sem Cert.Conditions

/-- The kernel on bit patterns runs and keeps its arguments, from any memory whose `pi` is the same on every device,
    an exchange (`sw = true`) or the order in place (`sw = false`). -/
theorem kernel_frame (m : (ℓ : Loc Cert.Kernel.nD Cert.Kernel.τ Cert.Kernel.sig) → Buf (Elt Bits) ℓ)
    (g : Dev Cert.Kernel.nD → PrngReg) (sw : Bool) (h : Cert.Kernel.Route.PiIs m sw) :
    θ_run (Cert.Kernel.defs (F := Bits)) (onTc (τ := Cert.Kernel.τ) (Cert.Kernel.main (F := Bits))) ⟨m, fun _ => 0, g⟩
      (fun r => (∀ c : Dev Cert.Kernel.nD,
        r.2.mem ((c.tc : Thread Cert.Kernel.nD Cert.Kernel.τ).loc Cert.Kernel.main_arg0)
            = m ((c.tc : Thread Cert.Kernel.nD Cert.Kernel.τ).loc Cert.Kernel.main_arg0)
        ∧ r.2.mem ((c.tc : Thread Cert.Kernel.nD Cert.Kernel.τ).loc Cert.Kernel.main_arg1)
            = m ((c.tc : Thread Cert.Kernel.nD Cert.Kernel.τ).loc Cert.Kernel.main_arg1))
        ∧ r.2.sem = fun _ => 0) :=
  (θ_run _ _ _).mono (fun r e => ⟨fun c => (e.1 c).2, e.2⟩) (Cert.Kernel.Route.run_main m g sw h)

/-- The same of the kernel over the extended reals. -/
theorem ideal_frame (m : (ℓ : Loc Cert.KernelIdeal.nD Cert.KernelIdeal.τ Cert.KernelIdeal.sig) → Buf (Elt Ideal) ℓ)
    (g : Dev Cert.KernelIdeal.nD → PrngReg) (sw : Bool) (h : Cert.KernelIdeal.Route.PiIs m sw) :
    θ_run (Cert.KernelIdeal.defs (F := Ideal)) (onTc (τ := Cert.KernelIdeal.τ) (Cert.KernelIdeal.main (F := Ideal)))
      ⟨m, fun _ => 0, g⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run _ _ _).mono (fun r e => ⟨fun c => (e.1 c).2, e.2⟩) (Cert.KernelIdeal.Route.run_main m g sw h)

/-- The reference runs from any memory and keeps its arguments; it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run _ _ _).mono (fun r e => ⟨fun c => (e c).2, sem_eq_zero_of_no_sems (by decide) r.2⟩)
    (Cert.ReferenceIdeal.Value.run m g)

/-- The reference's result array, where its `pi` is the exchange or the order in place: the rows of `x` in that order. -/
theorem reference_value (m : (ℓ : Loc Cert.ReferenceIdeal.nD Cert.ReferenceIdeal.τ Cert.ReferenceIdeal.sig) → Buf (Elt Ideal) ℓ)
    (g : Dev Cert.ReferenceIdeal.nD → PrngReg) (sw : Bool)
    (h : m (((0 : Dev Cert.ReferenceIdeal.nD).tc : Thread Cert.ReferenceIdeal.nD Cert.ReferenceIdeal.τ).loc Cert.ReferenceIdeal.main_arg1)
      = Cert.ReferenceIdeal.Route.order sw) :
    θ_run (Cert.ReferenceIdeal.defs (F := Ideal)) (onTc (τ := Cert.ReferenceIdeal.τ) (Cert.ReferenceIdeal.main (F := Ideal)))
      ⟨m, fun _ => 0, g⟩
      (fun r => r.2.mem (((0 : Dev Cert.ReferenceIdeal.nD).tc : Thread Cert.ReferenceIdeal.nD Cert.ReferenceIdeal.τ).loc Cert.ReferenceIdeal.main_v7)
          = Host.gather Cert.ReferenceIdeal.gather_S2x256x256_S2x1_S2x256x256_12_0_n_n_0_1_1256256
              (m (((0 : Dev Cert.ReferenceIdeal.nD).tc : Thread Cert.ReferenceIdeal.nD Cert.ReferenceIdeal.τ).loc Cert.ReferenceIdeal.main_arg0))
              (Cert.ReferenceIdeal.Route.column sw)
        ∧ r.2.mem (((0 : Dev Cert.ReferenceIdeal.nD).tc : Thread Cert.ReferenceIdeal.nD Cert.ReferenceIdeal.τ).loc Cert.ReferenceIdeal.main_arg0)
            = m (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1)
            = m (((0 : Dev Cert.ReferenceIdeal.nD).tc : Thread Cert.ReferenceIdeal.nD Cert.ReferenceIdeal.τ).loc Cert.ReferenceIdeal.main_arg1)) := by
  refine (θ_run _ _ _).mono (fun r e => ?_) (Cert.ReferenceIdeal.Value.run m g)
  obtain ⟨hv, h0, h1⟩ := e 0
  refine ⟨hv.trans ?_, h0, h1⟩
  rw [h, Cert.ReferenceIdeal.Route.sorted, Cert.ReferenceIdeal.Route.corrected]
  rfl

/-- The kernel's blocks are the blocks of the reference's result: from a memory in which each device holds its block of
    the reference's `x` and a copy of its `pi`, `pi` the exchange or the order in place. -/
theorem same_value (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (g' : Dev Cert.ReferenceIdeal.nD → PrngReg) (sw : Bool) (h : Cert.KernelIdeal.Route.PiIs m sw)
    (hm : ∀ c : Dev Cert.KernelIdeal.nD,
      m ((c.tc : Thread Cert.KernelIdeal.nD Cert.KernelIdeal.τ).loc Cert.KernelIdeal.main_arg0)
          = Cert.KernelIdeal.Route.blockOf c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1)
          = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal)))
        ⟨m, fun _ => 0, g⟩ (fun r => ∀ c : Dev Cert.KernelIdeal.nD,
          r.2.mem ((c.tc : Thread Cert.KernelIdeal.nD Cert.KernelIdeal.τ).loc Cert.KernelIdeal.main_v1)
            = Cert.KernelIdeal.Route.blockOf c v0
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal)))
        ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1)
            = m' (((0 : Dev Cert.ReferenceIdeal.nD).tc : Thread Cert.ReferenceIdeal.nD Cert.ReferenceIdeal.τ).loc Cert.ReferenceIdeal.main_arg1)) := by
  have hpi : m' (((0 : Dev Cert.ReferenceIdeal.nD).tc : Thread Cert.ReferenceIdeal.nD Cert.ReferenceIdeal.τ).loc Cert.ReferenceIdeal.main_arg1)
      = Cert.ReferenceIdeal.Route.order sw := by
    rw [← (hm 0).2]
    exact funext fun i => h 0 i
  refine ⟨_, ?_, reference_value m' g' sw hpi⟩
  refine (θ_run _ _ _).mono (fun r e c => ?_) (Cert.KernelIdeal.Route.run_main m g sw h)
  obtain ⟨hv, h0, h1⟩ := e.1 c
  exact ⟨hv.trans (Cert.KernelIdeal.Route.answer_eq m sw _ (fun c => (hm c).1) c), h0, h1⟩

end Cert.Claims

end
-- ==== Proof.lean ====
/-
  The certificate: the side conditions of the programs and preconditions hold, and every claim follows from the runs
  proved in `Proof/Claims.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_swaps_Kernel
public import proofs.«01_k».proof.Proof.Gen.Pre_stays_Kernel
public import proofs.«01_k».proof.Proof.Gen.Pre_swaps_ReferenceIdeal
public import proofs.«01_k».proof.Proof.Gen.Pre_stays_ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_swaps_Kernel.Gen.facts, Cert.Pre_stays_Kernel.Gen.facts, Cert.Pre_swaps_ReferenceIdeal.Gen.facts, Cert.Pre_stays_ReferenceIdeal.Gen.facts,
  fun m g h => Cert.Claims.kernel_frame m g true (Cert.Conditions.kernel_swaps m h),
  fun m g h => Cert.Claims.kernel_frame m g false (Cert.Conditions.kernel_stays m h),
  fun m g h => Cert.Claims.ideal_frame m g true (Cert.Conditions.ideal_swaps m h),
  fun m g h => Cert.Claims.ideal_frame m g false (Cert.Conditions.ideal_stays m h),
  fun m g _ => Cert.Claims.reference_frame m g,
  fun m g _ => Cert.Claims.reference_frame m g,
  fun m g _ => Cert.Claims.reference_frame m g,
  trivial,
  fun m g m' g' h hm => Cert.Claims.same_value m g m' g' true (Cert.Conditions.ideal_swaps m h) hm,
  fun m g m' g' h hm => Cert.Claims.same_value m g m' g' false (Cert.Conditions.ideal_stays m h) hm⟩

end Cert.Proof

end
